-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x4096 : Shape := ⟨3, ![2, 8192, 4096]⟩
abbrev S_ : Shape := ⟨0, ![]⟩

class Facts : Prop where
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel

variable [Facts]

def fn {F : FTy → Type} [FloatOps F] (main_arg0 : FVec F S2x8192x4096 .f32) : IVec S_ 1 :=
  let main_v0 : FVec F S2x8192x4096 .f32 := Host.absf main_arg0
  let main_cst : FVec F S_ .f32 := constant S_ .f32 0x7F800000#32
  let main_v1 : FVec F S2x8192x4096 .f32 := broadcastInDim S2x8192x4096 ![] bcast_S_S2x8192x4096 main_cst
  let main_v2 : IVec S2x8192x4096 1 := cmpf .olt main_v0 main_v1
  let main_c : IVec S_ 1 := constantI S_ 1 1#1
  let main_v3 : IVec S_ 1 := (fun x v => Host.reduce IntOp.andi x v reducesTo_S2x8192x4096_S_d0_1_2 h_S_) main_v2 main_c
  main_v3
-- ==== Kernel.lean ====
abbrev S2x8192x4096 : Shape := ⟨3, ![2, 8192, 4096]⟩
abbrev S256x256 : Shape := ⟨2, ![256, 256]⟩
abbrev S16384x4096 : Shape := ⟨2, ![16384, 4096]⟩
abbrev S512x4096 : Shape := ⟨2, ![512, 4096]⟩
abbrev S512x2048 : Shape := ⟨2, ![512, 2048]⟩
abbrev S512x1024 : Shape := ⟨2, ![512, 1024]⟩
abbrev S512x512 : Shape := ⟨2, ![512, 512]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S256x256, .bf16⟩
  | .hbm, ⟨2, _⟩ => ⟨S16384x4096, .f32⟩
  | .hbm, ⟨3, _⟩ => ⟨S16384x4096, .f32⟩
  | .hbm, ⟨4, _⟩ => ⟨S2x8192x4096, .f32⟩
  | .local _ .vmem, ⟨0, _⟩ => ⟨S512x4096, .f32⟩
  | .local _ .vmem, ⟨1, _⟩ => ⟨S512x4096, .f32⟩
  | .local _ .vmem, ⟨2, _⟩ => ⟨S256x256, .bf16⟩
  | .local _ .vmem, ⟨3, _⟩ => ⟨S512x4096, .f32⟩
  | .local _ .vmem, ⟨4, _⟩ => ⟨S512x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x8192x4096 : Shape := ⟨3, ![2, 8192, 4096]⟩
abbrev S16384x4096 : Shape := ⟨2, ![16384, 4096]⟩
abbrev S16384x2048x2 : Shape := ⟨3, ![16384, 2048, 2]⟩
abbrev S16384x2048x1 : Shape := ⟨3, ![16384, 2048, 1]⟩
abbrev S16384x1024x4 : Shape := ⟨3, ![16384, 1024, 4]⟩
abbrev S16384x1024x2 : Shape := ⟨3, ![16384, 1024, 2]⟩
abbrev S16384x512x8 : Shape := ⟨3, ![16384, 512, 8]⟩
abbrev S16384x512x4 : Shape := ⟨3, ![16384, 512, 4]⟩
abbrev S16384x256x16 : Shape := ⟨3, ![16384, 256, 16]⟩
abbrev S16384x256x8 : Shape := ⟨3, ![16384, 256, 8]⟩
abbrev S16384x128x32 : Shape := ⟨3, ![16384, 128, 32]⟩
abbrev S16384x128x16 : Shape := ⟨3, ![16384, 128, 16]⟩
abbrev S16384x64x64 : Shape := ⟨3, ![16384, 64, 64]⟩
abbrev S16384x64x32 : Shape := ⟨3, ![16384, 64, 32]⟩
abbrev S16384x32x128 : Shape := ⟨3, ![16384, 32, 128]⟩
abbrev S16384x32x64 : Shape := ⟨3, ![16384, 32, 64]⟩
abbrev S16384x16x256 : Shape := ⟨3, ![16384, 16, 256]⟩
abbrev S16384x16x128 : Shape := ⟨3, ![16384, 16, 128]⟩
abbrev S16384x8x512 : Shape := ⟨3, ![16384, 8, 512]⟩
abbrev S16384x8x256 : Shape := ⟨3, ![16384, 8, 256]⟩
abbrev S16384x4x1024 : Shape := ⟨3, ![16384, 4, 1024]⟩
abbrev S16384x4x512 : Shape := ⟨3, ![16384, 4, 512]⟩
abbrev S16384x2x2048 : Shape := ⟨3, ![16384, 2, 2048]⟩
abbrev S16384x2x1024 : Shape := ⟨3, ![16384, 2, 1024]⟩
abbrev S16384x1x4096 : Shape := ⟨3, ![16384, 1, 4096]⟩
abbrev S16384x1x2048 : Shape := ⟨3, ![16384, 1, 2048]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .f32⟩
  | .hbm, ⟨2, _⟩ => ⟨S16384x2048x2, .f32⟩
  | .hbm, ⟨3, _⟩ => ⟨S16384x2048x1, .f32⟩
  | .hbm, ⟨4, _⟩ => ⟨S16384x2048x1, .f32⟩
  | .hbm, ⟨5, _⟩ => ⟨S16384x2048x1, .f32⟩
  | .hbm, ⟨6, _⟩ => ⟨S16384x2048x1, .f32⟩
  | .hbm, ⟨7, _⟩ => ⟨S16384x2048x2, .f32⟩
  | .hbm, ⟨8, _⟩ => ⟨S16384x4096, .f32⟩
  | .hbm, ⟨9, _⟩ => ⟨S16384x1024x4, .f32⟩
  | .hbm, ⟨10, _⟩ => ⟨S16384x1024x2, .f32⟩
  | .hbm, ⟨11, _⟩ => ⟨S16384x1024x2, .f32⟩
  | .hbm, ⟨12, _⟩ => ⟨S16384x1024x2, .f32⟩
  | .hbm, ⟨13, _⟩ => ⟨S16384x1024x2, .f32⟩
  | .hbm, ⟨14, _⟩ => ⟨S16384x1024x4, .f32⟩
  | .hbm, ⟨15, _⟩ => ⟨S16384x4096, .f32⟩
  | .hbm, ⟨16, _⟩ => ⟨S16384x512x8, .f32⟩
  | .hbm, ⟨17, _⟩ => ⟨S16384x512x4, .f32⟩
  | .hbm, ⟨18, _⟩ => ⟨S16384x512x4, .f32⟩
  | .hbm, ⟨19, _⟩ => ⟨S16384x512x4, .f32⟩
  | .hbm, ⟨20, _⟩ => ⟨S16384x512x4, .f32⟩
  | .hbm, ⟨21, _⟩ => ⟨S16384x512x8, .f32⟩
  | .hbm, ⟨22, _⟩ => ⟨S16384x4096, .f32⟩
  | .hbm, ⟨23, _⟩ => ⟨S16384x256x16, .f32⟩
  | .hbm, ⟨24, _⟩ => ⟨S16384x256x8, .f32⟩
  | .hbm, ⟨25, _⟩ => ⟨S16384x256x8, .f32⟩
  | .hbm, ⟨26, _⟩ => ⟨S16384x256x8, .f32⟩
  | .hbm, ⟨27, _⟩ => ⟨S16384x256x8, .f32⟩
  | .hbm, ⟨28, _⟩ => ⟨S16384x256x16, .f32⟩
  | .hbm, ⟨29, _⟩ => ⟨S16384x4096, .f32⟩
  | .hbm, ⟨30, _⟩ => ⟨S16384x128x32, .f32⟩
  | .hbm, ⟨31, _⟩ => ⟨S16384x128x16, .f32⟩
  | .hbm, ⟨32, _⟩ => ⟨S16384x128x16, .f32⟩
  | .hbm, ⟨33, _⟩ => ⟨S16384x128x16, .f32⟩
  | .hbm, ⟨34, _⟩ => ⟨S16384x128x16, .f32⟩
  | .hbm, ⟨35, _⟩ => ⟨S16384x128x32, .f32⟩
  | .hbm, ⟨36, _⟩ => ⟨S16384x4096, .f32⟩
  | .hbm, ⟨37, _⟩ => ⟨S16384x64x64, .f32⟩
  | .hbm, ⟨38, _⟩ => ⟨S16384x64x32, .f32⟩
  | .hbm, ⟨39, _⟩ => ⟨S16384x64x32, .f32⟩
  | .hbm, ⟨40, _⟩ => ⟨S16384x64x32, .f32⟩
  | .hbm, ⟨41, _⟩ => ⟨S16384x64x32, .f32⟩
  | .hbm, ⟨42, _⟩ => ⟨S16384x64x64, .f32⟩
  | .hbm, ⟨43, _⟩ => ⟨S16384x4096, .f32⟩
  | .hbm, ⟨44, _⟩ => ⟨S16384x32x128, .f32⟩
  | .hbm, ⟨45, _⟩ => ⟨S16384x32x64, .f32⟩
  | .hbm, ⟨46, _⟩ => ⟨S16384x32x64, .f32⟩
  | .hbm, ⟨47, _⟩ => ⟨S16384x32x64, .f32⟩
  | .hbm, ⟨48, _⟩ => ⟨S16384x32x64, .f32⟩
  | .hbm, ⟨49, _⟩ => ⟨S16384x32x128, .f32⟩
  | .hbm, ⟨50, _⟩ => ⟨S16384x4096, .f32⟩
  | .hbm, ⟨51, _⟩ => ⟨S16384x16x256, .f32⟩
  | .hbm, ⟨52, _⟩ => ⟨S16384x16x128, .f32⟩
  | .hbm, ⟨53, _⟩ => ⟨S16384x16x128, .f32⟩
  | .hbm, ⟨54, _⟩ => ⟨S16384x16x128, .f32⟩
  | .hbm, ⟨55, _⟩ => ⟨S16384x16x128, .f32⟩
  | .hbm, ⟨56, _⟩ => ⟨S16384x16x256, .f32⟩
  | .hbm, ⟨57, _⟩ => ⟨S16384x4096, .f32⟩
  | .hbm, ⟨58, _⟩ => ⟨S16384x8x512, .f32⟩
  | .hbm, ⟨59, _⟩ => ⟨S16384x8x256, .f32⟩
  | .hbm, ⟨60, _⟩ => ⟨S16384x8x256, .f32⟩
  | .hbm, ⟨61, _⟩ => ⟨S16384x8x256, .f32⟩
  | .hbm, ⟨62, _⟩ => ⟨S16384x8x256, .f32⟩
  | .hbm, ⟨63, _⟩ => ⟨S16384x8x512, .f32⟩
  | .hbm, ⟨64, _⟩ => ⟨S16384x4096, .f32⟩
  | .hbm, ⟨65, _⟩ => ⟨S16384x4x1024, .f32⟩
  | .hbm, ⟨66, _⟩ => ⟨S16384x4x512, .f32⟩
  | .hbm, ⟨67, _⟩ => ⟨S16384x4x512, .f32⟩
  | .hbm, ⟨68, _⟩ => ⟨S16384x4x512, .f32⟩
  | .hbm, ⟨69, _⟩ => ⟨S16384x4x512, .f32⟩
  | .hbm, ⟨70, _⟩ => ⟨S16384x4x1024, .f32⟩
  | .hbm, ⟨71, _⟩ => ⟨S16384x4096, .f32⟩
  | .hbm, ⟨72, _⟩ => ⟨S16384x2x2048, .f32⟩
  | .hbm, ⟨73, _⟩ => ⟨S16384x2x1024, .f32⟩
  | .hbm, ⟨74, _⟩ => ⟨S16384x2x1024, .f32⟩
  | .hbm, ⟨75, _⟩ => ⟨S16384x2x1024, .f32⟩
  | .hbm, ⟨76, _⟩ => ⟨S16384x2x1024, .f32⟩
  | .hbm, ⟨77, _⟩ => ⟨S16384x2x2048, .f32⟩
  | .hbm, ⟨78, _⟩ => ⟨S16384x4096, .f32⟩
  | .hbm, ⟨79, _⟩ => ⟨S16384x1x4096, .f32⟩
  | .hbm, ⟨80, _⟩ => ⟨S16384x1x2048, .f32⟩
  | .hbm, ⟨81, _⟩ => ⟨S16384x1x2048, .f32⟩
  | .hbm, ⟨82, _⟩ => ⟨S16384x1x2048, .f32⟩
  | .hbm, ⟨83, _⟩ => ⟨S16384x1x2048, .f32⟩
  | .hbm, ⟨84, _⟩ => ⟨S16384x1x4096, .f32⟩
  | .hbm, ⟨85, _⟩ => ⟨S16384x4096, .f32⟩
  | .hbm, ⟨86, _⟩ => ⟨S2x8192x4096, .f32⟩
  | .hbm, ⟨87, _⟩ => ⟨S_, .f32⟩
  | .hbm, ⟨88, _⟩ => ⟨S2x8192x4096, .f32⟩
  | .hbm, ⟨89, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_cst : Ref sig .tc := ⟨.hbm, 87, rfl⟩
abbrev main_v86 : Ref sig .tc := ⟨.hbm, 88, rfl⟩
abbrev main_v87 : Ref sig .tc := ⟨.hbm, 89, rfl⟩

abbrev nD : Nat := 1
abbrev τ : Topo := Topo.v7x

variable {F : FTy → Type} [FloatOps F]
-- ==== Proof.Butterfly.lean ====
/-
  The mathematics of the fast Walsh-Hadamard transform over the reals, on one row of numbers indexed by ℕ.
  One butterfly stage combines the entries whose indices differ in one binary digit. Stages at different digits
  commute, and the stages of the lowest `k` digits together multiply every run of `2 ^ k` entries by the
  Hadamard matrix.
-/
module

public import Mathlib.Data.Real.Basic
public import Mathlib.Data.Nat.Bitwise
public import Mathlib.Algebra.BigOperators.Intervals
public import Mathlib.Tactic.Ring

@[expose] public section

namespace Cert.Wht

/-- Whether an odd number of the lowest `k` binary digits are set in both `i` and `j`: the sign of the
    Walsh-Hadamard matrix at row `i`, column `j`. -/
def odd : ℕ → ℕ → ℕ → Bool
  | 0, _, _ => false
  | k + 1, i, j => xor (odd k i j) (i.testBit k && j.testBit k)

/-- The sign itself, as a real number. -/
def sgn (k i j : ℕ) : ℝ := bif odd k i j then -1 else 1

/-- The butterfly stage at binary digit `k`: the sum goes where the digit is clear, the difference where it is set. -/
def bfly (k : ℕ) (v : ℕ → ℝ) (j : ℕ) : ℝ :=
  if j.testBit k then v (j ^^^ 2 ^ k) - v j else v j + v (j ^^^ 2 ^ k)

/-- The stages of the digits below `k`, lowest first. -/
def low : ℕ → (ℕ → ℝ) → ℕ → ℝ
  | 0, v => v
  | k + 1, v => bfly k (low k v)

/-- Flipping digit `k` leaves the other digits. -/
theorem testBit_flip {k l : ℕ} (h : k ≠ l) (j : ℕ) : (j ^^^ 2 ^ k).testBit l = j.testBit l := by
  rw [Nat.testBit_xor, Nat.testBit_two_pow_of_ne h, Bool.xor_false]

/-- Stages at different digits commute. -/
theorem bfly_comm {k l : ℕ} (h : k ≠ l) (v : ℕ → ℝ) : bfly k (bfly l v) = bfly l (bfly k v) := by
  funext j
  have e : j ^^^ 2 ^ l ^^^ 2 ^ k = j ^^^ 2 ^ k ^^^ 2 ^ l := by
    rw [Nat.xor_assoc, Nat.xor_comm (2 ^ l), Nat.xor_assoc]
  unfold bfly
  rw [testBit_flip h, testBit_flip h.symm, e]
  split_ifs <;> ring

/-- A stage commutes with all the stages below it. -/
theorem bfly_low {k l : ℕ} (h : k ≤ l) (v : ℕ → ℝ) : bfly l (low k v) = low k (bfly l v) := by
  induction k with
  | zero => rfl
  | succ k ih =>
    show bfly l (bfly k (low k v)) = bfly k (low k (bfly l v))
    rw [bfly_comm (by omega), ih (by omega)]

/-- The twelve stages from the lowest digit up are the four highest, from the top down, followed by the lowest eight. -/
theorem low_twelve (v : ℕ → ℝ) : low 12 v = low 8 (bfly 8 (bfly 9 (bfly 10 (bfly 11 v)))) := by
  show bfly 11 (bfly 10 (bfly 9 (bfly 8 (low 8 v)))) = _
  rw [bfly_low le_rfl, bfly_low (by omega), bfly_low (by omega), bfly_low (by omega),
    bfly_comm (k := 11) (l := 10) (by omega), bfly_comm (k := 11) (l := 9) (by omega),
    bfly_comm (k := 11) (l := 8) (by omega), bfly_comm (k := 10) (l := 9) (by omega),
    bfly_comm (k := 10) (l := 8) (by omega), bfly_comm (k := 9) (l := 8) (by omega)]

/-- Where digit `k` is clear, flipping it adds `2 ^ k`. -/
theorem flip_of_clear {k p : ℕ} (a : ℕ) (hp : p < 2 ^ k) :
    (2 ^ k * (2 * a) + p) ^^^ 2 ^ k = 2 ^ k * (2 * a + 1) + p := by
  refine Nat.eq_of_testBit_eq fun l => ?_
  rw [Nat.testBit_xor, Nat.testBit_two_pow_mul_add _ hp, Nat.testBit_two_pow_mul_add _ hp, Nat.testBit_two_pow]
  rcases lt_trichotomy l k with h | h | h
  · simp [h, h.ne']
  · subst h; simp
  · obtain ⟨d, rfl⟩ := Nat.exists_eq_add_of_lt h
    have e : k + d + 1 - k = d + 1 := by omega
    have e₁ : (2 * a + 1) / 2 = a := by omega
    simp [e, show ¬ k + d + 1 < k by omega, show k ≠ k + d + 1 by omega, Nat.testBit_succ, e₁]

/-- Where digit `k` is set, flipping it takes `2 ^ k` away. -/
theorem flip_of_set {k p : ℕ} (a : ℕ) (hp : p < 2 ^ k) :
    (2 ^ k * (2 * a + 1) + p) ^^^ 2 ^ k = 2 ^ k * (2 * a) + p := by
  rw [← flip_of_clear a hp, Nat.xor_assoc, Nat.xor_self, Nat.xor_zero]

/-- A stage in the even run of `2 ^ k` entries: the sum with the run that follows. -/
theorem bfly_even {k p : ℕ} (a : ℕ) (hp : p < 2 ^ k) (v : ℕ → ℝ) :
    bfly k v (2 ^ k * (2 * a) + p) = v (2 ^ k * (2 * a) + p) + v (2 ^ k * (2 * a + 1) + p) := by
  unfold bfly
  rw [flip_of_clear a hp, Nat.testBit_two_pow_mul_add _ hp]
  simp

/-- A stage in the odd run of `2 ^ k` entries: the run before, less this one. -/
theorem bfly_odd {k p : ℕ} (a : ℕ) (hp : p < 2 ^ k) (v : ℕ → ℝ) :
    bfly k v (2 ^ k * (2 * a + 1) + p) = v (2 ^ k * (2 * a) + p) - v (2 ^ k * (2 * a + 1) + p) := by
  unfold bfly
  rw [flip_of_set a hp, Nat.testBit_two_pow_mul_add _ hp]
  simp

/-- The sign of the first `k` digits does not see digit `k`. -/
theorem odd_add (k i p : ℕ) : ∀ l ≤ k, odd l (2 ^ k + i) p = odd l i p ∧ odd l i (2 ^ k + p) = odd l i p
  | 0, _ => ⟨rfl, rfl⟩
  | l + 1, h => by
    obtain ⟨h₁, h₂⟩ := odd_add k i p l (by omega)
    exact ⟨by rw [odd, odd, h₁, Nat.testBit_two_pow_add_gt h], by rw [odd, odd, h₂, Nat.testBit_two_pow_add_gt h]⟩

/-- A row of the larger Hadamard matrix at a column of its left half is the smaller matrix, in both halves of the rows. -/
theorem sgn_left {k i p : ℕ} (hi : i < 2 ^ k) (hp : p < 2 ^ k) :
    sgn (k + 1) i p = sgn k i p ∧ sgn (k + 1) (2 ^ k + i) p = sgn k i p := by
  unfold sgn
  rw [odd, odd, (odd_add k i p k le_rfl).1, Nat.testBit_lt_two_pow hp]
  simp

/-- At a column of its right half, the lower rows take the smaller matrix with the opposite sign. -/
theorem sgn_right {k i p : ℕ} (hi : i < 2 ^ k) (hp : p < 2 ^ k) :
    sgn (k + 1) i (2 ^ k + p) = sgn k i p ∧ sgn (k + 1) (2 ^ k + i) (2 ^ k + p) = -sgn k i p := by
  unfold sgn
  rw [odd, odd, (odd_add k i (2 ^ k + p) k le_rfl).1, (odd_add k i p k le_rfl).2, Nat.testBit_two_pow_add_eq,
    Nat.testBit_two_pow_add_eq, Nat.testBit_lt_two_pow hp, Nat.testBit_lt_two_pow hi]
  cases odd k i p <;> simp

/-- The lowest `k` stages multiply every run of `2 ^ k` entries by the Hadamard matrix. -/
theorem low_eq_sum (v : ℕ → ℝ) : ∀ (k a p : ℕ), p < 2 ^ k →
    low k v (2 ^ k * a + p) = ∑ i ∈ Finset.range (2 ^ k), sgn k i p * v (2 ^ k * a + i)
  | 0, a, p, hp => by
    obtain rfl : p = 0 := by simpa using hp
    simp [low, sgn, odd]
  | k + 1, a, p, hp => by
    have e : 2 ^ (k + 1) = 2 ^ k + 2 ^ k := by ring
    have e₀ (q : ℕ) : 2 ^ (k + 1) * a + q = 2 ^ k * (2 * a) + q := by ring
    have e₁ (q : ℕ) : 2 ^ (k + 1) * a + (2 ^ k + q) = 2 ^ k * (2 * a + 1) + q := by ring
    conv_rhs => rw [e]
    rw [Finset.sum_range_add]
    by_cases h : p < 2 ^ k
    · rw [e₀, low, bfly_even a h, low_eq_sum v k _ p h, low_eq_sum v k _ p h]
      congr 1 <;> refine Finset.sum_congr rfl fun i hi => ?_
      · rw [(sgn_left (Finset.mem_range.1 hi) h).1, ← e, e₀]
      · rw [(sgn_left (Finset.mem_range.1 hi) h).2, ← e, e₁]
    · obtain ⟨q, rfl⟩ := Nat.exists_eq_add_of_le (not_lt.1 h)
      have hq : q < 2 ^ k := by omega
      rw [e₁, low, bfly_odd a hq, low_eq_sum v k _ q hq, low_eq_sum v k _ q hq, sub_eq_add_neg,
        ← Finset.sum_neg_distrib]
      congr 1 <;> refine Finset.sum_congr rfl fun i hi => ?_
      · rw [(sgn_right (Finset.mem_range.1 hi) hq).1, ← e, e₀]
      · rw [(sgn_right (Finset.mem_range.1 hi) hq).2, ← e, e₁]; ring

end Cert.Wht
-- ==== Proof.Table.lean ====
/-
  The constant table of the kernel: the 256 × 256 Hadamard matrix divided by 64, as bfloat16 words.
  Entry (i, p) is `1/64` or `-1/64`, by the parity of the number of binary digits that `i` and `p` share.
-/
module

public import proofs.«01_k».proof.Proof.Butterfly
public import proofs.«01_k».proof.KernelIdeal

@[expose] public section

namespace Cert.Wht

/-- The number whose binary digit `a` is the parity of the number of ones among the binary digits of `a`, for every
    `a` below 256. -/
def parities : ℕ := 0x6996966996696996966969966996966996696996699696696996966996696996

/-- What the printed table holds in the row `i`: at column `p` the word of `1/64`, with the sign bit set where `i` and `p`
    share an odd number of binary digits. -/
def RowOk (i : ℕ) : Prop :=
  ∀ p < 256, (Cert.KernelIdeal.lit0t (i * 256 + p)).toNat = 0x3C80 + 0x8000 * ((parities >>> (i &&& p)) % 2)

/-- The statement about one row can be checked by evaluation. -/
noncomputable instance (i : ℕ) : Decidable (RowOk i) := by unfold RowOk; infer_instance

end Cert.Wht
-- ==== Proof.UpperRows.lean ====
/-
  The first 128 rows of the kernel's printed table, checked by evaluation.
-/
module

public import proofs.«01_k».proof.Proof.Table

@[expose] public section

namespace Cert.Wht

set_option maxRecDepth 100000
set_option maxHeartbeats 8000000

/-- The first quarter of the printed table, row by row. -/
theorem quarter_one : ∀ i < 64, RowOk i := by decide +kernel

/-- The second quarter of the printed table, row by row. -/
theorem quarter_two : ∀ i < 64, RowOk (i + 64) := by decide +kernel

end Cert.Wht
-- ==== Proof.LowerRows.lean ====
/-
  The last 128 rows of the kernel's printed table, checked by evaluation.
-/
module

public import proofs.«01_k».proof.Proof.Table

@[expose] public section

namespace Cert.Wht

set_option maxRecDepth 100000
set_option maxHeartbeats 8000000

/-- The third quarter of the printed table, row by row. -/
theorem quarter_three : ∀ i < 64, RowOk (i + 128) := by decide +kernel

/-- The last quarter of the printed table, row by row. -/
theorem quarter_four : ∀ i < 64, RowOk (i + 192) := by decide +kernel

end Cert.Wht
-- ==== Proof.Stages.lean ====
/-
  What one butterfly stage does to an array of extended reals whose rows hold real numbers, as each program spells the
  stage. The kernel cuts a block of rows into runs of `2 ^ k` columns, adds and subtracts neighbouring runs, and puts
  the results side by side. The reference splits the row axis in two, and does the same inside the last axis.
-/
module

public import proofs.«01_k».proof.Proof.Butterfly
public import Idealize.ShloMosaic.Lib.Pipeline.Value
public import Idealize.ShloMosaic.Lib.ValueIdx
public import Idealize.ShloMosaic.PureOps.Ideal

@[expose] public section

namespace Cert.Wht

open Idealize.ShloMosaic Idealize.ShloMosaic.ValueIdx

/-- A matrix of extended reals whose row `r` reads the real sequence `V r`. -/
def Rows {M n : ℕ} (A : (⟨2, ![M, n]⟩ : Shape).Idx → EReal) (V : Fin M → ℕ → ℝ) : Prop :=
  ∀ (r : Fin M) (c : Fin n), A (ix2 r c) = ((V r c.val : ℝ) : EReal)

/-- A run of columns of a matrix, starting at column `o` of the sequences `V`. -/
def Run {M s : ℕ} (o : ℕ) (Y : (⟨2, ![M, s]⟩ : Shape).Idx → EReal) (V : Fin M → ℕ → ℝ) : Prop :=
  ∀ (r : Fin M) (p : Fin s), Y (ix2 r p) = ((V r (o + p.val) : ℝ) : EReal)

/-- A slice of columns is the run that starts at its offset. -/
theorem Rows.slice {M n s o : ℕ} {A : (⟨2, ![M, n]⟩ : Shape).Idx → EReal} {V : Fin M → ℕ → ℝ} (hA : Rows A V)
    (h : (⟨2, ![M, n]⟩ : Shape).Slices ![0, o] ⟨2, ![M, s]⟩) :
    Run o (extractStridedSlice (⟨2, ![M, s]⟩ : Shape) ![0, o] A h) V := by
  intro r p
  have hb : o + p.val < n := lt_of_lt_of_le (Nat.add_lt_add_left p.isLt o) (h.2 1)
  rw [extractStridedSlice_apply ![0, o] A h (ix2 r p) (ix2 r ⟨o + p.val, hb⟩) (fun a => by
    match a with
    | ⟨0, _⟩ => exact (Nat.zero_add _).symm
    | ⟨1, _⟩ => rfl)]
  exact hA r ⟨o + p.val, hb⟩

/-- The sum of an even run and the run after it is that run of the stage. -/
theorem Run.add {M s o o' : ℕ} (k a : ℕ) {X Y : FVec Ideal ⟨2, ![M, s]⟩ .f32} {V : Fin M → ℕ → ℝ}
    (hs : s = 2 ^ k) (hX : Run o X V) (hY : Run o' Y V) (ho : o = 2 ^ k * (2 * a)) (ho' : o' = 2 ^ k * (2 * a + 1)) :
    Run o (addf X Y) fun r => bfly k (V r) := by
  subst hs
  intro r p
  show X (ix2 r p) + Y (ix2 r p) = _
  rw [hX, hY, ← EReal.coe_add, ho, ho']
  exact congrArg _ (bfly_even a p.isLt (V r)).symm

/-- The difference of an even run and the run after it is the latter's run of the stage. -/
theorem Run.sub {M s o o' : ℕ} (k a : ℕ) {X Y : FVec Ideal ⟨2, ![M, s]⟩ .f32} {V : Fin M → ℕ → ℝ}
    (hs : s = 2 ^ k) (hX : Run o X V) (hY : Run o' Y V) (ho : o = 2 ^ k * (2 * a)) (ho' : o' = 2 ^ k * (2 * a + 1)) :
    Run o' (subf X Y) fun r => bfly k (V r) := by
  subst hs
  intro r p
  show X (ix2 r p) - Y (ix2 r p) = _
  rw [hX, hY, ← EReal.coe_sub, ho, ho']
  exact congrArg _ (bfly_odd a p.isLt (V r)).symm

/-- Runs of equal length put side by side, each at its own place, make the whole matrix. -/
theorem Rows.of_runs {M n s N : ℕ} {V : Fin M → ℕ → ℝ} (f : Fin N → FVec Ideal ⟨2, ![M, s]⟩ .f32)
    (h : Shape.Concatenates ((List.ofFn fun m : Fin N => (⟨⟨2, ![M, s]⟩, f m⟩ : (t : Shape) × (t.Idx → EReal))).map (·.1))
      ⟨2, ![M, n]⟩ 1) (hn : n = s * N) (hf : ∀ m : Fin N, Run (s * m.val) (f m) V) :
    Rows (concatenate (⟨2, ![M, n]⟩ : Shape) 1 (List.ofFn fun m : Fin N => (⟨⟨2, ![M, s]⟩, f m⟩ : (t : Shape) × (t.Idx → EReal))) h) V := by
  intro r c
  have hc : c.val < s * N := hn ▸ c.isLt
  have hs : 0 < s := Nat.pos_of_ne_zero (by rintro rfl; simp at hc)
  rw [concatenate_ofFn_apply 1 f h rfl s rfl (ix2 r c) ⟨c.val / s, Nat.div_lt_of_lt_mul hc⟩ rfl
    (ix2 r ⟨c.val % s, Nat.mod_lt _ hs⟩) rfl (fun b hb => by
      match b with
      | ⟨0, _⟩ => rfl
      | ⟨1, _⟩ => exact absurd rfl hb), hf]
  exact congrArg (fun j => ((V r j : ℝ) : EReal)) (Nat.div_add_mod _ _)

/-- A rank-3 array whose row `r`, split over two axes, reads the real sequence `V r`. -/
def Rows3 {M q h : ℕ} (A : (⟨3, ![M, q, h]⟩ : Shape).Idx → EReal) (V : Fin M → ℕ → ℝ) : Prop :=
  ∀ (r : Fin M) (a : Fin q) (b : Fin h), A (ix3 r a b) = ((V r (h * a.val + b.val) : ℝ) : EReal)

/-- Joining the two axes keeps the sequences. -/
theorem Rows3.join {M q h n : ℕ} {A : (⟨3, ![M, q, h]⟩ : Shape).Idx → EReal} {V : Fin M → ℕ → ℝ} (hA : Rows3 A V)
    (hn : n = h * q) (hc : (⟨3, ![M, q, h]⟩ : Shape).ShapeCasts ⟨2, ![M, n]⟩) :
    Rows (shapeCast (⟨2, ![M, n]⟩ : Shape) A hc) V := by
  intro r c
  have hcn : c.val < h * q := hn ▸ c.isLt
  have hh : 0 < h := Nat.pos_of_ne_zero (by rintro rfl; simp at hcn)
  rw [shapeCast_apply A hc (ix2 r c) (ix3 r ⟨c.val / h, Nat.div_lt_of_lt_mul hcn⟩ ⟨c.val % h, Nat.mod_lt _ hh⟩) (by
    rw [Shape.rowMajor_val_three, Shape.rowMajor_val_two]
    show (r.val * q + c.val / h) * h + c.val % h = r.val * n + c.val
    have := Nat.div_add_mod c.val h
    calc (r.val * q + c.val / h) * h + c.val % h = r.val * (h * q) + (h * (c.val / h) + c.val % h) := by ring
      _ = r.val * n + c.val := by rw [this, ← hn]), hA]
  exact congrArg (fun j => ((V r j : ℝ) : EReal)) (Nat.div_add_mod _ _)

/-- Splitting the column axis in two keeps the sequences. -/
theorem Rows.split {M q h n : ℕ} {A : (⟨2, ![M, n]⟩ : Shape).Idx → EReal} {V : Fin M → ℕ → ℝ} (hA : Rows A V)
    (hn : n = h * q) (hc : (⟨2, ![M, n]⟩ : Shape).ShapeCasts ⟨3, ![M, q, h]⟩) :
    Rows3 (shapeCast (⟨3, ![M, q, h]⟩ : Shape) A hc) V := by
  intro r a b
  have hb : h * a.val + b.val < n := by
    have := Nat.mul_le_mul_left h (Nat.succ_le_of_lt a.isLt)
    have := b.isLt
    rw [Nat.mul_succ] at *
    omega
  rw [shapeCast_apply A hc (ix3 r a b) (ix2 r ⟨h * a.val + b.val, hb⟩) (by
    rw [Shape.rowMajor_val_three, Shape.rowMajor_val_two]
    show r.val * n + (h * a.val + b.val) = (r.val * q + a.val) * h + b.val
    rw [hn]; ring)]
  exact hA r ⟨h * a.val + b.val, hb⟩

/-- The reference's stage: the two halves of the last axis, added and subtracted, side by side. -/
theorem Rows3.stage {M q h s : ℕ} (k : ℕ) {A : FVec Ideal ⟨3, ![M, q, h]⟩ .f32} {V : Fin M → ℕ → ℝ} (hA : Rows3 A V)
    (hs : s = 2 ^ k) (hh : h = s + s)
    (h₀ : (⟨3, ![M, q, h]⟩ : Shape).Slices ![0, 0, 0] ⟨3, ![M, q, s]⟩)
    (h₁ : (⟨3, ![M, q, h]⟩ : Shape).Slices ![0, 0, s] ⟨3, ![M, q, s]⟩)
    (hc : Shape.Concatenates [⟨3, ![M, q, s]⟩, ⟨3, ![M, q, s]⟩] ⟨3, ![M, q, h]⟩ 2) :
    Rows3 (concatenate (⟨3, ![M, q, h]⟩ : Shape) 2
      [⟨⟨3, ![M, q, s]⟩, (addf (extractStridedSlice (⟨3, ![M, q, s]⟩ : Shape) ![0, 0, 0] A h₀)
          (extractStridedSlice (⟨3, ![M, q, s]⟩ : Shape) ![0, 0, s] A h₁) : FVec Ideal ⟨3, ![M, q, s]⟩ .f32)⟩,
       ⟨⟨3, ![M, q, s]⟩, (subf (extractStridedSlice (⟨3, ![M, q, s]⟩ : Shape) ![0, 0, 0] A h₀)
          (extractStridedSlice (⟨3, ![M, q, s]⟩ : Shape) ![0, 0, s] A h₁) : FVec Ideal ⟨3, ![M, q, s]⟩ .f32)⟩] hc)
      fun r => bfly k (V r) := by
  subst hs
  intro r a b
  have e₀ (p : ℕ) : h * a.val + p = 2 ^ k * (2 * a.val) + p := by rw [hh]; ring
  have e₁ (p : ℕ) : h * a.val + (2 ^ k + p) = 2 ^ k * (2 * a.val + 1) + p := by rw [hh]; ring
  have left (p : Fin (2 ^ k)) : extractStridedSlice (⟨3, ![M, q, 2 ^ k]⟩ : Shape) ![0, 0, 0] A h₀ (ix3 r a p)
      = ((V r (2 ^ k * (2 * a.val) + p.val) : ℝ) : EReal) := by
    have hb : p.val < h := by have := p.isLt; omega
    rw [extractStridedSlice_apply ![0, 0, 0] A h₀ (ix3 r a p) (ix3 r a ⟨p.val, hb⟩) (fun d => by
      match d with
      | ⟨0, _⟩ => exact (Nat.zero_add _).symm
      | ⟨1, _⟩ => exact (Nat.zero_add _).symm
      | ⟨2, _⟩ => exact (Nat.zero_add _).symm), hA]
    rw [e₀]
  have right (p : Fin (2 ^ k)) : extractStridedSlice (⟨3, ![M, q, 2 ^ k]⟩ : Shape) ![0, 0, 2 ^ k] A h₁ (ix3 r a p)
      = ((V r (2 ^ k * (2 * a.val + 1) + p.val) : ℝ) : EReal) := by
    have hb : 2 ^ k + p.val < h := by have := p.isLt; omega
    rw [extractStridedSlice_apply ![0, 0, 2 ^ k] A h₁ (ix3 r a p) (ix3 r a ⟨2 ^ k + p.val, hb⟩) (fun d => by
      match d with
      | ⟨0, _⟩ => exact (Nat.zero_add _).symm
      | ⟨1, _⟩ => exact (Nat.zero_add _).symm
      | ⟨2, _⟩ => rfl), hA]
    rw [e₁]
  by_cases hb : b.val < 2 ^ k
  · rw [concatenate_pair_apply_left 2 _ _ hc (ix3 r a b) rfl (ix3 r a ⟨b.val, hb⟩) (fun d => by
      match d with
      | ⟨0, _⟩ => rfl
      | ⟨1, _⟩ => rfl
      | ⟨2, _⟩ => rfl)]
    show extractStridedSlice _ _ _ _ _ + extractStridedSlice _ _ _ _ _ = _
    rw [left, right, ← EReal.coe_add, e₀]
    exact congrArg _ (bfly_even a.val hb (V r)).symm
  · obtain ⟨p, hp⟩ := Nat.exists_eq_add_of_le (not_lt.1 hb)
    have hp' : p < 2 ^ k := by have := b.isLt; omega
    rw [concatenate_pair_apply_right 2 _ _ hc (ix3 r a b) rfl rfl (ix3 r a ⟨p, hp'⟩) (fun d hd => by
      match d with
      | ⟨0, _⟩ => rfl
      | ⟨1, _⟩ => rfl
      | ⟨2, _⟩ => exact absurd rfl hd) (by show p + 2 ^ k = b.val; omega)]
    show extractStridedSlice _ _ _ _ _ - extractStridedSlice _ _ _ _ _ = _
    rw [left, right, ← EReal.coe_sub, hp, e₁]
    exact congrArg _ (bfly_odd a.val hp' (V r)).symm

end Cert.Wht
-- ==== Proof.Block.lean ====
/-
  What the kernel's body leaves in a block of 512 rows: the four highest butterfly stages, then one product with the
  Hadamard table for every run of 256 columns, which is the eight lowest stages and the division by 64.
-/
module

public import proofs.«01_k».proof.Proof.Stages
public import proofs.«01_k».proof.Proof.Gen.KernelIdeal.Frame
public import Idealize.ShloMosaic.Lib.MatmulPlain
public import Idealize.ShloMosaic.Lib.Pipeline.ValueKit

@[expose] public section

noncomputable section

namespace Cert.Wht

open Idealize.ShloMosaic hiding ix2 ix3
open Idealize.ShloMosaic.ValueIdx
open Cert.KernelIdeal Cert.KernelIdeal.Gen

/-- A finite sum of real numbers, taken among the extended reals. -/
theorem coe_sum {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A table that holds the Hadamard matrix of order 256 divided by 64. -/
def IsTable (T : FVec Ideal S256x256 .bf16) : Prop :=
  ∀ i p : Fin 256, (T (ix2 i p) : EReal) = ((sgn 8 i.val p.val * (1 / 64) : ℝ) : EReal)

/-- The sum of two slices of a block. -/
abbrev plus {s o o' : ℕ} (A : FVec Ideal S512x4096 .f32) (h : S512x4096.Slices ![0, o] ⟨2, ![512, s]⟩)
    (h' : S512x4096.Slices ![0, o'] ⟨2, ![512, s]⟩) : FVec Ideal ⟨2, ![512, s]⟩ .f32 :=
  addf (extractStridedSlice (⟨2, ![512, s]⟩ : Shape) ![0, o] A h) (extractStridedSlice (⟨2, ![512, s]⟩ : Shape) ![0, o'] A h')

/-- The difference of two slices of a block. -/
abbrev minus {s o o' : ℕ} (A : FVec Ideal S512x4096 .f32) (h : S512x4096.Slices ![0, o] ⟨2, ![512, s]⟩)
    (h' : S512x4096.Slices ![0, o'] ⟨2, ![512, s]⟩) : FVec Ideal ⟨2, ![512, s]⟩ .f32 :=
  subf (extractStridedSlice (⟨2, ![512, s]⟩ : Shape) ![0, o] A h) (extractStridedSlice (⟨2, ![512, s]⟩ : Shape) ![0, o'] A h')

/-- A sum of neighbouring runs is a run of the stage. -/
theorem run_plus {s o o' : ℕ} (k : ℕ) {A : FVec Ideal S512x4096 .f32} {V : Fin 512 → ℕ → ℝ} (hA : Rows A V)
    {h : S512x4096.Slices ![0, o] ⟨2, ![512, s]⟩} {h' : S512x4096.Slices ![0, o'] ⟨2, ![512, s]⟩}
    (hs : s = 2 ^ k) (ho : o = s * (2 * (o / (2 * s)))) (ho' : o' = s * (2 * (o / (2 * s)) + 1)) :
    Run o (plus A h h') fun r => bfly k (V r) :=
  Run.add k (o / (2 * s)) hs (hA.slice h) (hA.slice h') (hs ▸ ho) (hs ▸ ho')

/-- A difference of neighbouring runs is a run of the stage. -/
theorem run_minus {s o o' : ℕ} (k : ℕ) {A : FVec Ideal S512x4096 .f32} {V : Fin 512 → ℕ → ℝ} (hA : Rows A V)
    {h : S512x4096.Slices ![0, o] ⟨2, ![512, s]⟩} {h' : S512x4096.Slices ![0, o'] ⟨2, ![512, s]⟩}
    (hs : s = 2 ^ k) (ho : o = s * (2 * (o / (2 * s)))) (ho' : o' = s * (2 * (o / (2 * s)) + 1)) :
    Run o' (minus A h h') fun r => bfly k (V r) :=
  Run.sub k (o / (2 * s)) hs (hA.slice h) (hA.slice h') (hs ▸ ho) (hs ▸ ho')

/-- The body's stage over two runs of 2048 columns, its sums and differences side by side. -/
def widest (A : FVec Ideal S512x4096 .f32) : FVec Ideal S512x4096 .f32 :=
  concatenate S512x4096 1 [⟨S512x2048, plus A slices_S512x4096_o0_0_S512x2048 slices_S512x4096_o0_2048_S512x2048⟩,
      ⟨S512x2048, minus A slices_S512x4096_o0_0_S512x2048 slices_S512x4096_o0_2048_S512x2048⟩]
    concatenates_S512x2048_S512x2048_S512x4096_d1

/-- It is the butterfly stage at digit 11. -/
theorem rows_widest {A : FVec Ideal S512x4096 .f32} {V : Fin 512 → ℕ → ℝ} (hA : Rows A V) :
    Rows (widest A) fun r => bfly 11 (V r) :=
  Rows.of_runs (N := 2) (s := 2048) ![_, _] _ rfl (by
    intro m
    fin_cases m <;> first | exact run_plus 11 hA rfl rfl rfl | exact run_minus 11 hA rfl rfl rfl)

/-- The body's stage over four runs of 1024 columns, its sums and differences side by side. -/
def second (A : FVec Ideal S512x4096 .f32) : FVec Ideal S512x4096 .f32 :=
  concatenate S512x4096 1 [⟨S512x1024, plus A slices_S512x4096_o0_0_S512x1024 slices_S512x4096_o0_1024_S512x1024⟩,
      ⟨S512x1024, minus A slices_S512x4096_o0_0_S512x1024 slices_S512x4096_o0_1024_S512x1024⟩,
      ⟨S512x1024, plus A slices_S512x4096_o0_2048_S512x1024 slices_S512x4096_o0_3072_S512x1024⟩,
      ⟨S512x1024, minus A slices_S512x4096_o0_2048_S512x1024 slices_S512x4096_o0_3072_S512x1024⟩]
    concatenates_S512x1024_S512x1024_S512x1024_S512x1024_S512x4096_d1

/-- It is the butterfly stage at digit 10. -/
theorem rows_second {A : FVec Ideal S512x4096 .f32} {V : Fin 512 → ℕ → ℝ} (hA : Rows A V) :
    Rows (second A) fun r => bfly 10 (V r) :=
  Rows.of_runs (N := 4) (s := 1024) ![_, _, _, _] _ rfl (by
    intro m
    fin_cases m <;> first | exact run_plus 10 hA rfl rfl rfl | exact run_minus 10 hA rfl rfl rfl)

/-- The body's stage over eight runs of 512 columns, its sums and differences side by side. -/
def third (A : FVec Ideal S512x4096 .f32) : FVec Ideal S512x4096 .f32 :=
  concatenate S512x4096 1 [⟨S512x512, plus A slices_S512x4096_o0_0_S512x512 slices_S512x4096_o0_512_S512x512⟩,
      ⟨S512x512, minus A slices_S512x4096_o0_0_S512x512 slices_S512x4096_o0_512_S512x512⟩,
      ⟨S512x512, plus A slices_S512x4096_o0_1024_S512x512 slices_S512x4096_o0_1536_S512x512⟩,
      ⟨S512x512, minus A slices_S512x4096_o0_1024_S512x512 slices_S512x4096_o0_1536_S512x512⟩,
      ⟨S512x512, plus A slices_S512x4096_o0_2048_S512x512 slices_S512x4096_o0_2560_S512x512⟩,
      ⟨S512x512, minus A slices_S512x4096_o0_2048_S512x512 slices_S512x4096_o0_2560_S512x512⟩,
      ⟨S512x512, plus A slices_S512x4096_o0_3072_S512x512 slices_S512x4096_o0_3584_S512x512⟩,
      ⟨S512x512, minus A slices_S512x4096_o0_3072_S512x512 slices_S512x4096_o0_3584_S512x512⟩]
    concatenates_S512x512_S512x512_S512x512_S512x512_S512x512_S512x512_S512x512_S512x512_S512x4096_d1

/-- It is the butterfly stage at digit 9. -/
theorem rows_third {A : FVec Ideal S512x4096 .f32} {V : Fin 512 → ℕ → ℝ} (hA : Rows A V) :
    Rows (third A) fun r => bfly 9 (V r) :=
  Rows.of_runs (N := 8) (s := 512) ![_, _, _, _, _, _, _, _] _ rfl (by
    intro m
    fin_cases m <;> first | exact run_plus 9 hA rfl rfl rfl | exact run_minus 9 hA rfl rfl rfl)

/-- The body's stage over sixteen runs of 256 columns, its sums and differences side by side. -/
def fourth (A : FVec Ideal S512x4096 .f32) : FVec Ideal S512x4096 .f32 :=
  concatenate S512x4096 1 [⟨S512x256, plus A slices_S512x4096_o0_0_S512x256 slices_S512x4096_o0_256_S512x256⟩,
      ⟨S512x256, minus A slices_S512x4096_o0_0_S512x256 slices_S512x4096_o0_256_S512x256⟩,
      ⟨S512x256, plus A slices_S512x4096_o0_512_S512x256 slices_S512x4096_o0_768_S512x256⟩,
      ⟨S512x256, minus A slices_S512x4096_o0_512_S512x256 slices_S512x4096_o0_768_S512x256⟩,
      ⟨S512x256, plus A slices_S512x4096_o0_1024_S512x256 slices_S512x4096_o0_1280_S512x256⟩,
      ⟨S512x256, minus A slices_S512x4096_o0_1024_S512x256 slices_S512x4096_o0_1280_S512x256⟩,
      ⟨S512x256, plus A slices_S512x4096_o0_1536_S512x256 slices_S512x4096_o0_1792_S512x256⟩,
      ⟨S512x256, minus A slices_S512x4096_o0_1536_S512x256 slices_S512x4096_o0_1792_S512x256⟩,
      ⟨S512x256, plus A slices_S512x4096_o0_2048_S512x256 slices_S512x4096_o0_2304_S512x256⟩,
      ⟨S512x256, minus A slices_S512x4096_o0_2048_S512x256 slices_S512x4096_o0_2304_S512x256⟩,
      ⟨S512x256, plus A slices_S512x4096_o0_2560_S512x256 slices_S512x4096_o0_2816_S512x256⟩,
      ⟨S512x256, minus A slices_S512x4096_o0_2560_S512x256 slices_S512x4096_o0_2816_S512x256⟩,
      ⟨S512x256, plus A slices_S512x4096_o0_3072_S512x256 slices_S512x4096_o0_3328_S512x256⟩,
      ⟨S512x256, minus A slices_S512x4096_o0_3072_S512x256 slices_S512x4096_o0_3328_S512x256⟩,
      ⟨S512x256, plus A slices_S512x4096_o0_3584_S512x256 slices_S512x4096_o0_3840_S512x256⟩,
      ⟨S512x256, minus A slices_S512x4096_o0_3584_S512x256 slices_S512x4096_o0_3840_S512x256⟩]
    concatenates_S512x256_S512x256_S512x256_S512x256_S512x256_S512x256_S512x256_S512x256_S512x256_S512x256_S512x256_S512x256_S512x256_S512x256_S512x256_S512x256_S512x4096_d1

/-- It is the butterfly stage at digit 8. -/
theorem rows_fourth {A : FVec Ideal S512x4096 .f32} {V : Fin 512 → ℕ → ℝ} (hA : Rows A V) :
    Rows (fourth A) fun r => bfly 8 (V r) :=
  Rows.of_runs (N := 16) (s := 256) ![_, _, _, _, _, _, _, _, _, _, _, _, _, _, _, _] _ rfl (by
    intro m
    fin_cases m <;> first | exact run_plus 8 hA rfl rfl rfl | exact run_minus 8 hA rfl rfl rfl)

/-- The first part of the body is the stages at digits 11, 10 and 9. -/
theorem first_part (x : FVec Ideal S512x4096 .f32) :
    k0_pay2 x = third (second (widest (shapeCast S512x4096 x shapeCasts_S512x4096_S512x4096))) := rfl

/-- The rest of it is the stage at digit 8 and a cast. -/
theorem second_part (x : FVec Ideal S512x4096 .f32) :
    k0_pay27 (k0_pay2 x) (k0_pay5 x) (k0_pay6 x) (k0_pay9 x) (k0_pay10 x) (k0_pay13 x) (k0_pay14 x) (k0_pay17 x)
      (k0_pay18 x) (k0_pay21 x) (k0_pay22 x) (k0_pay25 x) (k0_pay26 x) = truncf .bf16 (fourth (k0_pay2 x)) bitsLt_bf16_f32 := rfl

/-- The block after the four highest stages, cast to the format of the products: the cast changes nothing here. -/
theorem rows_cast {x₀ : FVec Ideal S512x4096 .f32} (x₁ : FVec Ideal S256x256 .bf16) {V : Fin 512 → ℕ → ℝ} (hx : Rows x₀ V) :
    Rows (M := 512) (n := 4096) (k0_pay57 (F := Ideal) x₀ x₁) fun r => bfly 8 (bfly 9 (bfly 10 (bfly 11 (V r)))) := by
  have e : View.ld (Val := Elt Ideal) (e' := .f32) x₀ r0_0 = x₀ :=
    View.ld_unit_lit (Val := Elt Ideal) (e := .f32) (S := S512x4096) (off := ![0, 0]) inb_S512x4096_S512x4096_0_0 x₀ (by decide)
  have h : Rows (M := 512) (n := 4096) (k0_pay2 (F := Ideal) x₀) fun r => bfly 9 (bfly 10 (bfly 11 (V r))) := by
    rw [first_part, shapeCast_self]
    exact rows_third (rows_second (rows_widest hx))
  unfold k0_pay57 k0_pay44 k0_pay45 k0_pay46 k0_pay47 k0_pay48 k0_pay49 k0_pay50 k0_pay51 k0_pay52 k0_pay53 k0_pay54 k0_pay55 k0_pay56
  rw [e, second_part]
  exact rows_fourth h

/-- A run of 256 columns times the table is the eight lowest stages there, divided by 64. -/
theorem product_run {o : ℕ} (a : ℕ) {X : FVec Ideal S512x4096 .bf16} {W : Fin 512 → ℕ → ℝ} (hX : Rows X W)
    {T : FVec Ideal S256x256 .bf16} (hT : IsTable T) (h : S512x4096.Slices ![0, o] S512x256) (ho : o = 2 ^ 8 * a) :
    Run (M := 512) (s := 256) o (matmul dot_S512x256_S256x256_S512x256_1_0_0_1_n_n none
      (extractStridedSlice S512x256 ![0, o] X h) T (constant S512x256 .f32 0x00000000#32))
      fun r j => low 8 (W r) j * (1 / 64) := by
  intro r p
  refine (Ideal.matmul_plain_apply none (extractStridedSlice S512x256 ![0, o] X h) T _ r p).trans ?_
  have e : ∀ i : Fin 256, extractStridedSlice S512x256 ![0, o] X h (ix2 r i) * T (ix2 i p)
      = ((sgn 8 i.val p.val * W r (2 ^ 8 * a + i.val) * (1 / 64) : ℝ) : EReal) := fun i => by
    rw [hT, hX.slice h r i, ← EReal.coe_mul, ho]
    exact congrArg _ (by ring)
  rw [Finset.sum_congr rfl fun i _ => e i, coe_sum, ← Finset.sum_mul, ho]
  show _ = ((low 8 (W r) (2 ^ 8 * a + p.val) * (1 / 64) : ℝ) : EReal)
  rw [low_eq_sum (W r) 8 a p.val p.isLt,
    Finset.sum_range]
  exact (congrArg (· + _) Ideal.ofBits_zero_f32).trans (zero_add _)

/-- What the body leaves in the block of the output: every row's transform. -/
theorem rows_out {x₀ : FVec Ideal S512x4096 .f32} {x₁ : FVec Ideal S256x256 .bf16} {V : Fin 512 → ℕ → ℝ}
    (hx : Rows x₀ V) (hT : IsTable x₁) :
    Rows (M := 512) (n := 4096) (out0_2 (F := Ideal) x₀ x₁) fun r j => low 12 (V r) j * (1 / 64) := by
  intro r c
  have hX := rows_cast x₁ hx
  have e : View.ld (Val := Elt Ideal) (e' := .bf16) x₁ r0_1 = x₁ :=
    View.ld_unit_lit (Val := Elt Ideal) (e := .bf16) (S := S256x256) (off := ![0, 0]) inb_S256x256_S256x256_0_0 x₁ (by decide)
  have hT' : IsTable (View.ld (Val := Elt Ideal) (e' := .bf16) x₁ r0_1) := e.symm ▸ hT
  have piece {o : ℕ} {T : FVec Ideal S256x256 .bf16} (hT : IsTable T) (h : S512x4096.Slices ![0, o] S512x256)
      (ho : o = 2 ^ 8 * (o / 2 ^ 8)) :
      View.TileAt (Val := Elt Ideal) (e := .f32) (S := S512x4096) (ix2 r c) ![0, o] S512x256.size
        (matmul dot_S512x256_S256x256_S512x256_1_0_0_1_n_n none
          (extractStridedSlice S512x256 ![0, o] (k0_pay57 (F := Ideal) x₀ x₁) h) T (constant S512x256 .f32 0x00000000#32))
        ((low 12 (V r) c.val * (1 / 64) : ℝ) : EReal) := by
    intro i hi
    obtain ⟨a, b, rfl⟩ : ∃ (a : Fin 512) (b : Fin 256), i = ix2 a b := ⟨_, _, ValueIdx.eq_ix2 i⟩
    obtain rfl : r = a := Fin.ext ((hi 0).trans (Nat.zero_add _))
    have hb : c.val = o + b.val := hi 1
    rw [hb, low_twelve]
    exact product_run _ hX hT h ho r b
  refine View.canon_eq_of_allAt _ _ _ (cover0_2 _ _ _ _ _ _ _ _ _ _ _ _ _ _ _ _ _) ?_
  repeat refine View.allAt_cons_unit _ _ _ _ _ (piece hT' ⟨rfl, by decide⟩ rfl) ?_
  exact View.allAt_nil _ _

end Cert.Wht
-- ==== Proof.Spec.lean ====
/-
  The transform as a function of the argument array, what the precondition says of that array, and the reading of the
  array's rows as sequences of real numbers.
-/
module

public import proofs.«01_k».proof.Proof.Stages
public import proofs.«01_k».proof.Pre_finite
public import Idealize.ShloMosaic.Lib.ReduceAll
public import Idealize.ShloMosaic.Lib.Pointwise

@[expose] public section

noncomputable section

namespace Cert.Wht

open Idealize.ShloMosaic hiding ix2 ix3
open Idealize.ShloMosaic.ValueIdx

/-- The shape of the argument and of the result. -/
abbrev Arr : Shape := ⟨3, ![2, 8192, 4096]⟩

/-- Row `r` of the 16384 rows of the argument, as a sequence of real numbers (zero from entry 4096 on). -/
def rowOf (x : Arr.Idx → EReal) (r : Fin 16384) (j : ℕ) : ℝ :=
  if h : j < 4096 then
    (x (ix3 ⟨r.val / 8192, by have := r.isLt; omega⟩ ⟨r.val % 8192, Nat.mod_lt _ (by norm_num)⟩ ⟨j, h⟩)).toReal
  else 0

/-- The normalized Walsh-Hadamard transform of every row of the argument: the twelve stages, then a division by 64. -/
def transform (x : Arr.Idx → EReal) : Arr.Idx → EReal := fun i =>
  ((low 12 (rowOf x ⟨(i 0).val * 8192 + (i 1).val, by
      have h₀ : (i 0).val < 2 := (i 0).isLt
      have h₁ : (i 1).val < 8192 := (i 1).isLt
      omega⟩) (i 2).val * (1 / 64) : ℝ) : EReal)

/-- The single-precision word of infinity. -/
theorem word_inf : Ideal.ofBits .f32 0x7F800000#32 = ⊤ := by simp [Ideal.ofBits, Ideal.ieee]

/-- The precondition says that every entry is a real number. -/
theorem real_of_finite [Cert.Pre_finite.Facts] (x : FVec Ideal Arr .f32)
    (h : Cert.Pre_finite.fn (F := Ideal) x = fun _ => 1#1) (i : Arr.Idx) : x i = (((x i : EReal).toReal : ℝ) : EReal) := by
  haveI : Subsingleton Cert.Pre_finite.S_.Idx := ⟨fun a b => funext fun d => d.elim0⟩
  have e := Host.reduce_andi_all _ _ _ _ (fun d => d.elim0) (congrFun h fun d => d.elim0) i
  have lt : max (x i) (-x i) < Ideal.ofBits .f32 0x7F800000#32 := (Ideal.cmp_olt_eq_one _ _).1 e
  rw [word_inf] at lt
  refine (EReal.coe_toReal ?_ ?_).symm
  · rintro hx
    rw [hx] at lt
    simp at lt
  · rintro hx
    rw [hx] at lt
    simp at lt

/-- The argument flattened to a matrix of 16384 rows reads the sequences `rowOf`. -/
theorem rows_flat (x : FVec Ideal Arr .f32) (hx : ∀ i, x i = (((x i : EReal).toReal : ℝ) : EReal))
    (hc : Arr.ShapeCasts ⟨2, ![16384, 4096]⟩) :
    Rows (shapeCast (⟨2, ![16384, 4096]⟩ : Shape) x hc) (rowOf x) := by
  intro r c
  rw [shapeCast_apply x hc (ix2 r c) (ix3 ⟨r.val / 8192, by have := r.isLt; omega⟩ ⟨r.val % 8192, Nat.mod_lt _ (by norm_num)⟩ c) (by
    rw [Shape.rowMajor_val_three, Shape.rowMajor_val_two]
    show (r.val / 8192 * 8192 + r.val % 8192) * 4096 + c.val = r.val * 4096 + c.val
    omega), hx, rowOf, dif_pos c.isLt]

/-- The index of the flattened argument that a result index comes from. -/
theorem flat_apply {A : (⟨2, ![16384, 4096]⟩ : Shape).Idx → EReal} (hc : (⟨2, ![16384, 4096]⟩ : Shape).ShapeCasts Arr)
    {V : Fin 16384 → ℕ → ℝ} (hA : Rows A V) (i : Arr.Idx) (h : (i 0).val * 8192 + (i 1).val < 16384) :
    shapeCast Arr A hc i = ((V ⟨(i 0).val * 8192 + (i 1).val, h⟩ (i 2).val : ℝ) : EReal) := by
  rw [shapeCast_apply A hc i (ix2 ⟨(i 0).val * 8192 + (i 1).val, h⟩ (i 2)) (by
    rw [Shape.rowMajor_val_three, Shape.rowMajor_val_two]
    rfl)]
  exact hA _ _

/-- A matrix that reads the transformed and scaled rows, brought to the shape of the result, is the transform. -/
theorem eq_transform (x : Arr.Idx → EReal) {A : (⟨2, ![16384, 4096]⟩ : Shape).Idx → EReal}
    (hA : Rows A fun r j => low 12 (rowOf x r) j * (1 / 64)) (hc : (⟨2, ![16384, 4096]⟩ : Shape).ShapeCasts Arr) :
    shapeCast Arr A hc = transform x :=
  funext fun i => flat_apply hc hA i _

/-- A matrix that reads the transformed rows, brought to the shape of the result and scaled there, is the transform. -/
theorem mul_eq_transform (x : Arr.Idx → EReal) {A : (⟨2, ![16384, 4096]⟩ : Shape).Idx → EReal}
    (hA : Rows A fun r => low 12 (rowOf x r)) (hc : (⟨2, ![16384, 4096]⟩ : Shape).ShapeCasts Arr) :
    (fun i => shapeCast Arr A hc i * (((1 : ℝ) / 64 : ℝ) : EReal)) = transform x :=
  funext fun i => (congrArg (· * _) (flat_apply hc hA i _)).trans (EReal.coe_mul _ _).symm

end Cert.Wht
-- ==== Proof.Result.lean ====
/-
  The kernel's run: what every grid point writes back, the array of all rows those blocks make up, and the result that
  array is reshaped to.
-/
module

public import proofs.«01_k».proof.Proof.Block
public import proofs.«01_k».proof.Proof.Spec
public import Idealize.ShloMosaic.Lib.Pipeline.Value
public import Idealize.ShloMosaic.Lib.StableHlo.Run

@[expose] public section

noncomputable section

namespace Cert.Wht

open Idealize.ShloMosaic hiding ix2 ix3
open Idealize.ShloMosaic.TcCoe Idealize.SL.Sem Idealize.ShloMosaic.StableHlo
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The argument the kernel is launched with, on device `c`. -/
abbrev input (c : Dev nD) : FVec Ideal Arr .f32 := m ((c.tc : Thread nD τ).loc main_arg0)

/-- The table of signs the kernel carries. -/
abbrev table : FVec Ideal S256x256 .bf16 := fun i => FloatOps.ofBits .bf16 (lit0 (S256x256.rowMajor i))

/-- The contents after a line of one operation. -/
theorem after_one (o : HloOp τ sig (Elt Ideal)) (W : Valuation τ sig (Elt Ideal)) : after [o] W = o.result W := rfl

/-- The contents after a line of two operations. -/
theorem after_two (o o' : HloOp τ sig (Elt Ideal)) (W : Valuation τ sig (Elt Ideal)) :
    after [o, o'] W = o'.result (o.result W) := rfl

/-- The pipeline's first array is the argument flattened to a matrix. -/
theorem entry_rows (c : Dev nD) :
    V m c main_v0 = shapeCast S16384x4096 (input m c) shapeCasts_S2x8192x4096_S16384x4096 :=
  (congrFun (after_two _ _ (fun b => m (c, b))) _).trans
    ((reshape_result main_arg0 main_v0 rfl shapeCasts_S2x8192x4096_S16384x4096 _ _ _).trans
      (congrArg (fun z => shapeCast S16384x4096 z shapeCasts_S2x8192x4096_S16384x4096)
        (nullary_result_ne main_cst _ _ (fun b => m (c, b)) (by decide))))

/-- The pipeline's second array is the table of signs. -/
theorem entry_table (c : Dev nD) : V m c main_cst = table :=
  (congrFun (after_two _ _ (fun b => m (c, b))) _).trans
    ((reshape_result_ne main_arg0 main_v0 rfl shapeCasts_S2x8192x4096_S16384x4096 _ _ _ (by decide)).trans
      (nullary_result main_cst _ _ (fun b => m (c, b))))

/-- The block of 512 rows a point works on begins at row 512 times the point's number, in the input and in the output;
    the table is one block. -/
theorem index_eq : ∀ t : Fin grid0.N, (win0_0.index t 0 = t.val ∧ win0_0.index t 1 = 0)
    ∧ (win0_1.index t 0 = 0 ∧ win0_1.index t 1 = 0) ∧ (win0_2.index t 0 = t.val ∧ win0_2.index t 1 = 0) := by
  decide +kernel

/-- The number of a row inside the block of point `t`. -/
def rowAt (t : Fin grid0.N) (r : Fin 512) : Fin 16384 := ⟨512 * t.val + r.val, by
  have h : t.val < 32 := lt_of_lt_of_eq t.isLt N_0
  have := r.isLt
  omega⟩

/-- Where the first window's block has its entry `(r, c)` in the array. -/
theorem emb_in (t : Fin grid0.N) (r : Fin 512) (j : Fin 4096) :
    (win0_0.rect t).emb (ix2 r j) = ix2 (rowAt t r) j := by
  refine Shape.idx_ext₂ ?_ ?_
  · rw [win0_0.rect_emb_val, (index_eq t).1.1]
    show t.val * 512 + r.val = 512 * t.val + r.val
    omega
  · rw [win0_0.rect_emb_val, (index_eq t).1.2]
    show 0 * 4096 + j.val = j.val
    omega

/-- Where the output window's block has its entry `(r, c)` in the array. -/
theorem emb_out (t : Fin grid0.N) (r : Fin 512) (j : Fin 4096) :
    (win0_2.rect t).emb (ix2 r j) = ix2 (rowAt t r) j := by
  refine Shape.idx_ext₂ ?_ ?_
  · rw [win0_2.rect_emb_val, (index_eq t).2.2.1]
    show t.val * 512 + r.val = 512 * t.val + r.val
    omega
  · rw [win0_2.rect_emb_val, (index_eq t).2.2.2]
    show 0 * 4096 + j.val = j.val
    omega

/-- The table window's block is the whole table. -/
theorem emb_table (t : Fin grid0.N) (i p : Fin 256) : (win0_1.rect t).emb (ix2 i p) = ix2 i p := by
  refine Shape.idx_ext₂ ?_ ?_
  · rw [win0_1.rect_emb_val, (index_eq t).2.1.1]
    show 0 * 256 + i.val = i.val
    omega
  · rw [win0_1.rect_emb_val, (index_eq t).2.1.2]
    show 0 * 256 + p.val = p.val
    omega

/-- The block of rows a point reads, as sequences of real numbers. -/
theorem block_rows (c : Dev nD) (hx : ∀ i, input m c i = (((input m c i : EReal).toReal : ℝ) : EReal)) (t : Fin cfg0.N) :
    Rows (M := 512) (n := 4096) (iblk m c 0 t) fun r => rowOf (input m c) (rowAt t r) := by
  intro r j
  have e : V m c main_v0 ((win0_0.rect t).emb (ix2 r j)) = V m c main_v0 (ix2 (rowAt t r) j) := congrArg _ (emb_in t r j)
  refine Eq.trans ?_ ((rows_flat (input m c) hx shapeCasts_S2x8192x4096_S16384x4096) (rowAt t r) j)
  exact e.trans (congrFun (entry_rows m c) _)

/-- The block of the table a point reads is the table. -/
theorem block_table (hT : IsTable table) (c : Dev nD) (t : Fin cfg0.N) : IsTable (iblk m c 1 t) := by
  intro i p
  have e : V m c main_cst ((win0_1.rect t).emb (ix2 i p)) = V m c main_cst (ix2 i p) := congrArg _ (emb_table t i p)
  exact (e.trans (congrFun (entry_table m c) _)).trans (hT i p)

/-- The transform of all rows, as a matrix. -/
def matrix (c : Dev nD) : S16384x4096.Idx → EReal :=
  fun i => ((low 12 (rowOf (input m c) (i 0)) (i 1).val * (1 / 64) : ℝ) : EReal)

/-- What point `t` writes back is its block of the transform of all rows. -/
theorem flushed_eq (hT : IsTable table) (c : Dev nD)
    (hx : ∀ i, input m c i = (((input m c i : EReal).toReal : ℝ) : EReal)) (t : Fin cfg0.N) :
    (dats m 0 c).flushed 2 t = (win0_2.blk t).view.read (Elt Ideal) (matrix m c) := by
  show (cfg0.win 2).cut (grid0.coords t) ((dats m 0 c).after 2 t) = _
  rw [after0_2]
  refine funext fun (y : S512x4096.Idx) => ?_
  rw [ValueIdx.eq_ix2 y]
  have h := rows_out (block_rows m c hx t) (block_table m hT c t) (y 0) (y 1)
  have e : matrix m c ((win0_2.rect t).emb (ix2 (y 0) (y 1))) = matrix m c (ix2 (rowAt t (y 0)) (y 1)) :=
    congrArg _ (emb_out t (y 0) (y 1))
  exact h.trans e.symm

/-- The blocks the points write back make up the whole array. -/
theorem cover (i : S16384x4096.Idx) :
    ∃ t : Fin cfg0.N, (cfg0.win 2).flush t = true ∧ i ∈ ((cfg0.win 2).blk t).view.set := by
  have h0 : (i 0).val < 16384 := (i 0).isLt
  have hN : grid0.N = 32 := N_0
  have ht : (i 0).val / 512 < grid0.N := by omega
  refine ⟨⟨(i 0).val / 512, ht⟩, flush0_2 _, ?_⟩
  have e : (win0_2.rect ⟨(i 0).val / 512, ht⟩).emb (ix2 ⟨(i 0).val % 512, Nat.mod_lt _ (by norm_num)⟩ (i 1)) = i :=
    (emb_out ⟨(i 0).val / 512, ht⟩ ⟨(i 0).val % 512, Nat.mod_lt _ (by norm_num)⟩ (i 1)).trans
      (Shape.idx_ext₂ (by
        show 512 * ((i 0).val / 512) + (i 0).val % 512 = (i 0).val
        omega) rfl)
  exact Eq.mp (congrArg (fun z => z ∈ ((cfg0.win 2).blk ⟨(i 0).val / 512, ht⟩).view.set) e)
    (View.emb_mem_set ((cfg0.win 2).blk ⟨(i 0).val / 512, ht⟩).view _)

/-- After the last point the output array holds the transform of all rows. -/
theorem final_eq (hT : IsTable table) (c : Dev nD)
    (hx : ∀ i, input m c i = (((input m c i : EReal).toReal : ℝ) : EReal)) :
    (dats m 0 c).arrAt 2 cfg0.N = matrix m c :=
  (dats m 0 c).arrAt_eq_of_cover 2 (matrix m c) (fun t _ => flushed_eq m hT c hx t) cover

/-- The result the kernel returns is the transform of its argument. -/
theorem result_eq (hT : IsTable table) (c : Dev nD)
    (hx : ∀ i, input m c i = (((input m c i : EReal).toReal : ℝ) : EReal)) :
    Pipeline.afterTail₀ cfgs (dats m) 0 (V0 m) [hostOps1] c main_v2 = transform (input m c) := by
  have e : Pipeline.afterTail₀ cfgs (dats m) 0 (V0 m) [hostOps1] c main_v2
      = shapeCast Arr (Pipeline.withArrays spec0 c (V0 m c) (fun w => (dats m 0 c).arrAt w cfg0.N)
          (Proc.devRef .tc main_v1)) shapeCasts_S16384x4096_S2x8192x4096 :=
    (congrFun (after_one _ (Pipeline.withArrays spec0 c (V0 m c) fun w => (dats m 0 c).arrAt w cfg0.N)) _).trans
      (reshape_result main_v1 main_v2 rfl shapeCasts_S16384x4096_S2x8192x4096 _ _ _)
  have a : Pipeline.withArrays spec0 c (V0 m c) (fun w => (dats m 0 c).arrAt w cfg0.N) (Proc.devRef .tc main_v1)
      = matrix m c :=
    (Pipeline.withArrays_arr spec0 (by decide) c (V0 m c) (fun w => (dats m 0 c).arrAt w cfg0.N) 2).trans
      (final_eq m hT c hx)
  rw [e, a]
  exact eq_transform (input m c) (fun _ _ => rfl) _

/-- The kernel runs to completion; its result is the transform of its argument, and the argument is unchanged. -/
theorem kernel_run (hT : IsTable table) (hx : ∀ c i, input m c i = (((input m c i : EReal).toReal : ℝ) : EReal)) :
    θ_run defs (onTc (τ := τ) (main (F := Ideal))) ⟨m, fun _ => 0, ρ⟩ fun r => ∀ c : Dev nD,
      r.2.mem ((c.tc : Thread nD τ).loc main_v2) = transform (input m c)
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (result_eq m hT c (hx c)),
      ((h c).2 main_arg0 (Pipeline.mem_restRefs_of main_arg0 (by decide) (by decide))).trans (W_main_arg0 m (dats m) c)⟩)
    (run_main m ρ)

end Cert.Wht
-- ==== Proof.Signs.lean ====
/-
  The printed table as real numbers: it is the Hadamard matrix of order 256, divided by 64.
-/
module

public import proofs.«01_k».proof.Proof.UpperRows
public import proofs.«01_k».proof.Proof.LowerRows
public import proofs.«01_k».proof.Proof.Result

@[expose] public section

noncomputable section

namespace Cert.Wht

open Idealize.ShloMosaic hiding ix2 ix3
open Idealize.ShloMosaic.ValueIdx
open Cert.KernelIdeal Cert.KernelIdeal.Gen

/-- The bfloat16 word of `1/64`. -/
theorem word_plus : Ideal.ofBits .bf16 0x3C80#16 = (((1 : ℝ) / 64 : ℝ) : EReal) := by
  simp [Ideal.ofBits, Ideal.ieee, -EReal.coe_mul]; norm_num

/-- The bfloat16 word of `-1/64`. -/
theorem word_minus : Ideal.ofBits .bf16 0xBC80#16 = ((-((1 : ℝ) / 64) : ℝ) : EReal) := by
  simp [Ideal.ofBits, Ideal.ieee, -EReal.coe_mul, -EReal.coe_neg]; norm_num

/-- The sign depends only on the binary digits the row and the column share. -/
theorem odd_and (k i j : ℕ) : odd k i j = odd k (i &&& j) (i &&& j) := by
  induction k with
  | zero => rfl
  | succ k ih => rw [odd, odd, ih, Nat.testBit_and, Bool.and_self]

/-- The parity the table is described with is the one the signs are defined with. -/
theorem odd_self : ∀ a < 256, odd 8 a a = ((parities >>> a) % 2 == 1) := by decide +kernel

/-- Every row of the printed table is as described. -/
theorem rowOk (i : ℕ) (hi : i < 256) : RowOk i := by
  by_cases h₁ : i < 64
  · exact quarter_one i h₁
  by_cases h₂ : i < 128
  · have h := quarter_two (i - 64) (by omega)
    rwa [show i - 64 + 64 = i by omega] at h
  by_cases h₃ : i < 192
  · have h := quarter_three (i - 128) (by omega)
    rwa [show i - 128 + 128 = i by omega] at h
  · have h := quarter_four (i - 192) (by omega)
    rwa [show i - 192 + 192 = i by omega] at h

/-- The number a word of the printed table stands for. -/
theorem entry_value (i p : ℕ) (hi : i < 256) (hp : p < 256) :
    Ideal.ofBits .bf16 (lit0t (i * 256 + p)) = ((sgn 8 i p * (1 / 64) : ℝ) : EReal) := by
  have w := rowOk i hi p hp
  have o : odd 8 i p = ((parities >>> (i &&& p)) % 2 == 1) :=
    (odd_and 8 i p).trans (odd_self _ (Nat.and_lt_two_pow (n := 8) i hp))
  generalize parities >>> (i &&& p) = d at w o
  rcases Nat.mod_two_eq_zero_or_one d with h | h
  · rw [h] at w o
    rw [BitVec.eq_of_toNat_eq (y := 0x3C80#16) w, word_plus, sgn, o]
    exact congrArg _ (by simp)
  · rw [h] at w o
    rw [BitVec.eq_of_toNat_eq (y := 0xBC80#16) w, word_minus, sgn, o]
    exact congrArg _ (by simp)

/-- The kernel's table is the Hadamard matrix of order 256 divided by 64. -/
theorem isTable_table : IsTable table := by
  intro i p
  have e : (S256x256.rowMajor (ix2 i p)).val = i.val * 256 + p.val := by
    rw [Shape.rowMajor_val_two]
    rfl
  refine Eq.trans ?_ (entry_value i.val p.val i.isLt p.isLt)
  exact congrArg (fun n => Ideal.ofBits .bf16 (lit0t n)) e

end Cert.Wht
-- ==== Proof.Reference.lean ====
/-
  The reference at the ideal instance: its twelve stages, joined and split between them, read row by row, are the
  twelve butterfly stages of the transform, and its last product is the division by 64.
-/
module

public import proofs.«01_k».proof.Proof.Spec
public import proofs.«01_k».proof.Proof.Gen.ReferenceIdeal.Run

@[expose] public section

noncomputable section

namespace Cert.Wht

open Idealize.ShloMosaic hiding ix2 ix3
open Idealize.ShloMosaic.ValueIdx Idealize.ShloMosaic.StableHlo Idealize.SL.Sem
open Cert.ReferenceIdeal Cert.ReferenceIdeal.Gen Cert.ReferenceIdeal.Value

/-- The argument array of a valuation of the reference's buffers. -/
abbrev argument (V0 : Valuation τ sig (Elt Ideal)) : FVec Ideal Arr .f32 := V0 (Proc.devRef .tc main_arg0)

/-- The word of one sixty-fourth. -/
theorem word_norm : Ideal.ofBits .f32 0x3C800000#32 = (((1 : ℝ) / 64 : ℝ) : EReal) := by
  simp [Ideal.ofBits, Ideal.ieee, -EReal.coe_mul]; norm_num

/-- The reference's last product, at every entry. -/
theorem scale_eq (X : FVec Ideal S2x8192x4096 .f32) :
    mulf X (broadcastInDim S2x8192x4096 ![] bcast_S_S2x8192x4096 (constant S_ .f32 0x3C800000#32))
      = fun i => (X i : EReal) * (((1 : ℝ) / 64 : ℝ) : EReal) :=
  funext fun i => congrArg ((X i : EReal) * ·) word_norm

/-- One stage of the reference together with the joining and splitting that lead to the next: from the first `k`
    stages to the first `k + 1`. -/
theorem Rows3.next (k : ℕ) {q h s q' h' : ℕ} {A : FVec Ideal ⟨3, ![16384, q, h]⟩ .f32} {W : Fin 16384 → ℕ → ℝ}
    (hA : Rows3 A fun r => low k (W r)) (hs : s = 2 ^ k) (hh : h = s + s) (hn : 4096 = h * q) (hn' : 4096 = h' * q')
    (h₀ : (⟨3, ![16384, q, h]⟩ : Shape).Slices ![0, 0, 0] ⟨3, ![16384, q, s]⟩)
    (h₁ : (⟨3, ![16384, q, h]⟩ : Shape).Slices ![0, 0, s] ⟨3, ![16384, q, s]⟩)
    (hc : Shape.Concatenates [⟨3, ![16384, q, s]⟩, ⟨3, ![16384, q, s]⟩] ⟨3, ![16384, q, h]⟩ 2)
    (hj : (⟨3, ![16384, q, h]⟩ : Shape).ShapeCasts ⟨2, ![16384, 4096]⟩)
    (hp : (⟨2, ![16384, 4096]⟩ : Shape).ShapeCasts ⟨3, ![16384, q', h']⟩) :
    Rows3 (shapeCast (⟨3, ![16384, q', h']⟩ : Shape) (shapeCast (⟨2, ![16384, 4096]⟩ : Shape)
      (concatenate (⟨3, ![16384, q, h]⟩ : Shape) 2
        [⟨⟨3, ![16384, q, s]⟩, (addf (extractStridedSlice (⟨3, ![16384, q, s]⟩ : Shape) ![0, 0, 0] A h₀)
            (extractStridedSlice (⟨3, ![16384, q, s]⟩ : Shape) ![0, 0, s] A h₁) : FVec Ideal ⟨3, ![16384, q, s]⟩ .f32)⟩,
         ⟨⟨3, ![16384, q, s]⟩, (subf (extractStridedSlice (⟨3, ![16384, q, s]⟩ : Shape) ![0, 0, 0] A h₀)
            (extractStridedSlice (⟨3, ![16384, q, s]⟩ : Shape) ![0, 0, s] A h₁) : FVec Ideal ⟨3, ![16384, q, s]⟩ .f32)⟩] hc)
      hj) hp) fun r => low (k + 1) (W r) :=
  ((hA.stage k hs hh h₀ h₁ hc).join hn hj).split hn' hp

/-- What the reference computes from an argument whose entries are real numbers is the transform. -/
theorem reference_eq (V0 : Valuation τ sig (Elt Ideal))
    (hx : ∀ i, argument V0 i = (((argument V0 i : EReal).toReal : ℝ) : EReal)) :
    (mulf (shapeCast S2x8192x4096 (shapeCast S16384x4096 (concatenate S16384x1x4096 2
        [⟨S16384x1x2048, (addf (res_main_v79 V0) (res_main_v80 V0))⟩, ⟨S16384x1x2048, (subf (res_main_v79 V0) (res_main_v80 V0))⟩]
        concatenates_S16384x1x2048_S16384x1x2048_S16384x1x4096_d2) shapeCasts_S16384x1x4096_S16384x4096)
        shapeCasts_S16384x4096_S2x8192x4096)
      (broadcastInDim S2x8192x4096 ![] bcast_S_S2x8192x4096 (constant S_ .f32 0x3C800000#32)) : FVec Ideal S2x8192x4096 .f32)
    = transform (argument V0) := by
  have h₀ : Rows3 (M := 16384) (q := 2048) (h := 2) (res_main_v1 V0) fun r => low 0 (rowOf (argument V0) r) :=
    (rows_flat (argument V0) hx _).split rfl _
  have h₁ : Rows3 (M := 16384) (q := 1024) (h := 4) (res_main_v8 V0) _ := h₀.next (s := 1) 0 rfl rfl rfl rfl _ _ _ _ _
  have h₂ : Rows3 (M := 16384) (q := 512) (h := 8) (res_main_v15 V0) _ := h₁.next (s := 2) 1 rfl rfl rfl rfl _ _ _ _ _
  have h₃ : Rows3 (M := 16384) (q := 256) (h := 16) (res_main_v22 V0) _ := h₂.next (s := 4) 2 rfl rfl rfl rfl _ _ _ _ _
  have h₄ : Rows3 (M := 16384) (q := 128) (h := 32) (res_main_v29 V0) _ := h₃.next (s := 8) 3 rfl rfl rfl rfl _ _ _ _ _
  have h₅ : Rows3 (M := 16384) (q := 64) (h := 64) (res_main_v36 V0) _ := h₄.next (s := 16) 4 rfl rfl rfl rfl _ _ _ _ _
  have h₆ : Rows3 (M := 16384) (q := 32) (h := 128) (res_main_v43 V0) _ := h₅.next (s := 32) 5 rfl rfl rfl rfl _ _ _ _ _
  have h₇ : Rows3 (M := 16384) (q := 16) (h := 256) (res_main_v50 V0) _ := h₆.next (s := 64) 6 rfl rfl rfl rfl _ _ _ _ _
  have h₈ : Rows3 (M := 16384) (q := 8) (h := 512) (res_main_v57 V0) _ := h₇.next (s := 128) 7 rfl rfl rfl rfl _ _ _ _ _
  have h₉ : Rows3 (M := 16384) (q := 4) (h := 1024) (res_main_v64 V0) _ := h₈.next (s := 256) 8 rfl rfl rfl rfl _ _ _ _ _
  have h₁₀ : Rows3 (M := 16384) (q := 2) (h := 2048) (res_main_v71 V0) _ := h₉.next (s := 512) 9 rfl rfl rfl rfl _ _ _ _ _
  have h₁₁ : Rows3 (M := 16384) (q := 1) (h := 4096) (res_main_v78 V0) _ := h₁₀.next (s := 1024) 10 rfl rfl rfl rfl _ _ _ _ _
  have h₁₂ : Rows (M := 16384) (n := 4096) (shapeCast S16384x4096 (concatenate S16384x1x4096 2
      [⟨S16384x1x2048, (addf (res_main_v79 V0) (res_main_v80 V0))⟩, ⟨S16384x1x2048, (subf (res_main_v79 V0) (res_main_v80 V0))⟩]
      concatenates_S16384x1x2048_S16384x1x2048_S16384x1x4096_d2) shapeCasts_S16384x1x4096_S16384x4096)
      fun r => low 12 (rowOf (argument V0) r) := (h₁₁.stage (s := 2048) 11 rfl rfl _ _ _).join rfl _
  exact (scale_eq _).trans (mul_eq_transform (argument V0) h₁₂ _)

end Cert.Wht
-- ==== Proof.lean ====
/-
  The claims: the programs run to completion leaving their argument as it was, and the kernel and the reference end with
  the same result, the normalized Walsh-Hadamard transform of every row of the argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Signs
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- From every launch the reference runs to completion, its argument unchanged and every counter at zero again. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- On a finite argument the kernel and the reference both end with the transform of the argument. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hfin hagree
  have hx : ∀ c i, Cert.Wht.input m c i = (((Cert.Wht.input m c i : EReal).toReal : ℝ) : EReal) :=
    fun c i => Cert.Wht.real_of_finite (Cert.Wht.input m c) (hfin c) i
  have arg (c : Dev Cert.ReferenceIdeal.nD) :
      Cert.Wht.argument (StableHlo.launchContents m' c) = Cert.Wht.input m c := hagree c
  refine ⟨fun c => Cert.Wht.transform (Cert.Wht.input m c),
    Cert.Wht.kernel_run m ρ Cert.Wht.isTable_table hx, ?_⟩
  refine (θ_run Cert.ReferenceIdeal.defs _ _).mono (fun r h c => ⟨(h c).1.trans ?_, (h c).2⟩)
    (Cert.ReferenceIdeal.Value.run (F := Ideal) m' ρ')
  refine (Cert.Wht.reference_eq (StableHlo.launchContents m' c) ?_).trans (congrArg Cert.Wht.transform (arg c))
  rw [arg c]
  exact hx c

/-- Everything the certificate claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    same_result⟩

end Cert.Proof

end
